-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S8x1024 : Shape := ⟨2, ![8, 1024]⟩
abbrev S8x1024x256 : Shape := ⟨3, ![8, 1024, 256]⟩
abbrev S8x256 : Shape := ⟨2, ![8, 256]⟩
abbrev S8x256x1024 : Shape := ⟨3, ![8, 256, 1024]⟩
abbrev S2048x1024 : Shape := ⟨2, ![2048, 1024]⟩
abbrev S256x1024 : Shape := ⟨2, ![256, 1024]⟩
abbrev S256x2048 : Shape := ⟨2, ![256, 2048]⟩
abbrev S1x256x1024 : Shape := ⟨3, ![1, 256, 1024]⟩
abbrev S256x8 : Shape := ⟨2, ![256, 8]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S256x256 : Shape := ⟨2, ![256, 256]⟩
abbrev S1x256 : Shape := ⟨2, ![1, 256]⟩

abbrev nBuf : Space → Nat
  | .hbm => 9
  | .vmem => 12
  | .smem => 0
  | _ => 0

abbrev bufTy : (tb : Table) → Fin (tcTables nBuf tb) → BufTy
  | .hbm, ⟨0, _⟩ => ⟨S1x2048x1024, .f32⟩
  | .hbm, ⟨1, _⟩ => ⟨S8x1024, .f32⟩
  | .hbm, ⟨2, _⟩ => ⟨S8x1024x256, .f32⟩
  | .hbm, ⟨3, _⟩ => ⟨S8x256, .f32⟩
  | .hbm, ⟨4, _⟩ => ⟨S8x256x1024, .f32⟩
  | .hbm, ⟨5, _⟩ => ⟨S8x1024, .f32⟩
  | .hbm, ⟨6, _⟩ => ⟨S2048x1024, .f32⟩
  | .hbm, ⟨7, _⟩ => ⟨S2048x1024, .f32⟩
  | .hbm, ⟨8, _⟩ => ⟨S1x2048x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024x256, .f32⟩
  | .local _ .vmem, ⟨4, _⟩ => ⟨S8x256, .f32⟩
  | .local _ .vmem, ⟨5, _⟩ => ⟨S8x256x1024, .f32⟩
  | .local _ .vmem, ⟨6, _⟩ => ⟨S8x1024, .f32⟩
  | .local _ .vmem, ⟨7, _⟩ => ⟨S256x1024, .f32⟩
  | .local _ .vmem, ⟨8, _⟩ => ⟨S256x1024, .f32⟩
  | .local _ .vmem, ⟨9, _⟩ => ⟨S8x1024x256, .bf16⟩
  | .local _ .vmem, ⟨10, _⟩ => ⟨S2048x1024, .bf16⟩
  | .local _ .vmem, ⟨11, _⟩ => ⟨S256x2048, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x2048x1024 : Shape := ⟨3, ![1, 2048, 1024]⟩
abbrev S8x1024 : Shape := ⟨2, ![8, 1024]⟩
abbrev S8x1024x256 : Shape := ⟨3, ![8, 1024, 256]⟩
abbrev S8x256 : Shape := ⟨2, ![8, 256]⟩
abbrev S8x256x1024 : Shape := ⟨3, ![8, 256, 1024]⟩
abbrev S2048x1024 : Shape := ⟨2, ![2048, 1024]⟩
abbrev S1024x8 : Shape := ⟨2, ![1024, 8]⟩
abbrev S2048x8 : Shape := ⟨2, ![2048, 8]⟩
abbrev S_ : Shape := ⟨0, ![]⟩
abbrev S2048x1 : Shape := ⟨2, ![2048, 1]⟩
abbrev S2048x1x1 : Shape := ⟨3, ![2048, 1, 1]⟩
abbrev S1x1x8 : Shape := ⟨3, ![1, 1, 8]⟩
abbrev S2048x1x8 : Shape := ⟨3, ![2048, 1, 8]⟩
abbrev S2048x8x256 : Shape := ⟨3, ![2048, 8, 256]⟩
abbrev S1x8x256 : Shape := ⟨3, ![1, 8, 256]⟩
abbrev S8x1024x2048 : Shape := ⟨3, ![8, 1024, 2048]⟩
abbrev S2048x8x1024 : Shape := ⟨3, ![2048, 8, 1024]⟩
abbrev S1x8x1024 : Shape := ⟨3, ![1, 8, 1024]⟩
abbrev S2048x8x1 : Shape := ⟨3, ![2048, 8, 1]⟩

abbrev nBuf : Space → Nat
  | .hbm => 48
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S8x1024, .f32⟩
  | .hbm, ⟨2, _⟩ => ⟨S8x1024x256, .f32⟩
  | .hbm, ⟨3, _⟩ => ⟨S8x256, .f32⟩
  | .hbm, ⟨4, _⟩ => ⟨S8x256x1024, .f32⟩
  | .hbm, ⟨5, _⟩ => ⟨S8x1024, .f32⟩
  | .hbm, ⟨6, _⟩ => ⟨S2048x1024, .f32⟩
  | .hbm, ⟨7, _⟩ => ⟨S1024x8, .f32⟩
  | .hbm, ⟨8, _⟩ => ⟨S2048x8, .f32⟩
  | .hbm, ⟨9, _⟩ => ⟨S2048x8, .f32⟩
  | .hbm, ⟨10, _⟩ => ⟨S2048x8, .f32⟩
  | .hbm, ⟨11, _⟩ => ⟨S_, .f32⟩
  | .hbm, ⟨12, _⟩ => ⟨S2048x8, .f32⟩
  | .hbm, ⟨13, _⟩ => ⟨S2048x8, .f32⟩
  | .hbm, ⟨14, _⟩ => ⟨S_, .f32⟩
  | .hbm, ⟨15, _⟩ => ⟨S2048x8, .f32⟩
  | .hbm, ⟨16, _⟩ => ⟨S2048x8, .f32⟩
  | .hbm, ⟨17, _⟩ => ⟨S2048x1, .f32⟩
  | .hbm, ⟨18, _⟩ => ⟨S2048x1, .i32⟩
  | .hbm, ⟨19, _⟩ => ⟨S2048x1x1, .i32⟩
  | .hbm, ⟨20, _⟩ => ⟨S1x1x8, .i32⟩
  | .hbm, ⟨21, _⟩ => ⟨S2048x1x8, .i32⟩
  | .hbm, ⟨22, _⟩ => ⟨S2048x1x8, .i32⟩
  | .hbm, ⟨23, _⟩ => ⟨S2048x1x8, .i1⟩
  | .hbm, ⟨24, _⟩ => ⟨S2048x1x8, .f32⟩
  | .hbm, ⟨25, _⟩ => ⟨S2048x1x1, .f32⟩
  | .hbm, ⟨26, _⟩ => ⟨S2048x1x8, .f32⟩
  | .hbm, ⟨27, _⟩ => ⟨S2048x1x8, .f32⟩
  | .hbm, ⟨28, _⟩ => ⟨S_, .f32⟩
  | .hbm, ⟨29, _⟩ => ⟨S2048x8, .f32⟩
  | .hbm, ⟨30, _⟩ => ⟨S2048x8x256, .f32⟩
  | .hbm, ⟨31, _⟩ => ⟨S1x8x256, .f32⟩
  | .hbm, ⟨32, _⟩ => ⟨S2048x8x256, .f32⟩
  | .hbm, ⟨33, _⟩ => ⟨S2048x8x256, .f32⟩
  | .hbm, ⟨34, _⟩ => ⟨S_, .f32⟩
  | .hbm, ⟨35, _⟩ => ⟨S2048x8x256, .f32⟩
  | .hbm, ⟨36, _⟩ => ⟨S2048x8x256, .f32⟩
  | .hbm, ⟨37, _⟩ => ⟨S8x1024x2048, .f32⟩
  | .hbm, ⟨38, _⟩ => ⟨S2048x8x1024, .f32⟩
  | .hbm, ⟨39, _⟩ => ⟨S1x8x1024, .f32⟩
  | .hbm, ⟨40, _⟩ => ⟨S2048x8x1024, .f32⟩
  | .hbm, ⟨41, _⟩ => ⟨S2048x8x1024, .f32⟩
  | .hbm, ⟨42, _⟩ => ⟨S2048x8x1, .f32⟩
  | .hbm, ⟨43, _⟩ => ⟨S2048x8x1024, .f32⟩
  | .hbm, ⟨44, _⟩ => ⟨S2048x8x1024, .f32⟩
  | .hbm, ⟨45, _⟩ => ⟨S_, .f32⟩
  | .hbm, ⟨46, _⟩ => ⟨S2048x1024, .f32⟩
  | .hbm, ⟨47, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_values : Ref sig .tc := ⟨.hbm, 17, rfl⟩
abbrev main_indices : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call1_cst : Ref sig .tc := ⟨.hbm, 34, rfl⟩
abbrev main_call1_v0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩

abbrev nD : Nat := 1
abbrev τ : Topo := Topo.v7x

variable {F : FTy → Type} [FloatOps F]
-- ==== Proof.Gate.lean ====
/-
  The gate of one row: of eight scores the greatest is kept, at the first place that holds it, and every other place
  gets zero. Stated on extended reals, apart from either program, with the one law of arithmetic that the two programs'
  orders of summation need: a finite weight that is not negative distributes over a sum.
-/
module

public import Idealize.ShloMosaic.PureOps.Ideal
public import Mathlib.Data.EReal.Operations
public import Mathlib.Algebra.BigOperators.Fin
public import Mathlib.Logic.Equiv.Fin.Basic

@[expose] public section

noncomputable section

namespace Cert.Moe

open Idealize.ShloMosaic
open scoped BigOperators

/-- Place `e` holds the greatest of the eight scores and no earlier place does. -/
def IsTop (p : Fin 8 → EReal) (e : Fin 8) : Prop := (∀ f, p f ≤ p e) ∧ ∀ f, f < e → p f < p e

/-- At most one place is the first that holds the greatest score. -/
theorem IsTop.unique {p : Fin 8 → EReal} {e f : Fin 8} (he : IsTop p e) (hf : IsTop p f) : e = f := by
  rcases lt_trichotomy e f with h | h | h
  · exact absurd (he.1 f) (not_le.mpr (hf.2 e h))
  · exact h
  · exact absurd (hf.1 e) (not_le.mpr (he.2 f h))

open Classical in
/-- The gate of place `e`: its score if it is the first place that holds the greatest score, zero otherwise. -/
def gate (p : Fin 8 → EReal) (e : Fin 8) : EReal := if IsTop p e then p e else 0

/-- The gate at the first place that holds the greatest score is that score. -/
theorem gate_of_isTop {p : Fin 8 → EReal} {e : Fin 8} (h : IsTop p e) : gate p e = p e := by
  unfold gate
  exact if_pos h

/-- The gate is zero at every other place. -/
theorem gate_of_ne {p : Fin 8 → EReal} {e f : Fin 8} (h : IsTop p e) (hne : f ≠ e) : gate p f = 0 := by
  unfold gate
  exact if_neg fun hf => hne (hf.unique h)

/-- The logistic function of an extended real lies between zero and one. -/
theorem logistic_mem (x : EReal) : 0 ≤ Ideal.logistic x ∧ Ideal.logistic x ≤ 1 := by
  induction x with
  | bot => rw [Ideal.logistic_bot]; exact ⟨le_refl _, zero_le_one⟩
  | top => rw [Ideal.logistic_top]; exact ⟨zero_le_one, le_refl _⟩
  | coe r =>
    rw [Ideal.logistic_coe]
    have h : (0 : ℝ) < Real.exp (-r) := Real.exp_pos _
    refine ⟨EReal.coe_nonneg.mpr (inv_nonneg.mpr (by linarith)), ?_⟩
    rw [← EReal.coe_one]
    exact EReal.coe_le_coe_iff.mpr (inv_le_one_of_one_le₀ (by linarith))

/-- A gate of scores that lie between zero and one is finite and not negative. -/
theorem gate_mem {p : Fin 8 → EReal} (hp : ∀ e, 0 ≤ p e ∧ p e ≤ 1) (e : Fin 8) : 0 ≤ gate p e ∧ gate p e ≠ ⊤ := by
  unfold gate
  split
  · exact ⟨(hp e).1, ne_top_of_le_ne_top (EReal.coe_ne_top 1) (hp e).2⟩
  · exact ⟨le_refl _, EReal.zero_ne_top⟩

/-- A finite weight that is not negative distributes over a finite sum of extended reals. -/
theorem mul_sum_of_mem {ι : Type} (s : Finset ι) {g : EReal} (h : 0 ≤ g ∧ g ≠ ⊤) (f : ι → EReal) :
    g * ∑ i ∈ s, f i = ∑ i ∈ s, g * f i := by
  classical
  induction s using Finset.induction_on with
  | empty => simp
  | insert a s ha ih =>
    rw [Finset.sum_insert ha, Finset.sum_insert ha, EReal.left_distrib_of_nonneg_of_ne_top h.1 h.2, ih]

/-- A sum over the 2048 columns of the stacked hidden layer is a sum over the experts of sums over their columns. -/
theorem sum_columns (f : Fin 2048 → EReal) :
    ∑ k, f k = ∑ e : Fin 8, ∑ h : Fin 256, f ⟨e.val * 256 + h.val, by omega⟩ := by
  rw [← Equiv.sum_comp (finProdFinEquiv (m := 8) (n := 256)) f, Fintype.sum_prod_type]
  refine Finset.sum_congr rfl fun e _ => Finset.sum_congr rfl fun h _ => congrArg f (Fin.ext ?_)
  show h.val + 256 * e.val = e.val * 256 + h.val
  omega

/-- Weighting each expert's hidden layer before one long product and adding the weighted second biases after it gives
    the same as weighting each expert's whole answer. -/
theorem weighted_sum {g : Fin 8 → EReal} (hg : ∀ e, 0 ≤ g e ∧ g e ≠ ⊤) (a w : Fin 8 → Fin 256 → EReal) (b : Fin 8 → EReal) :
    (∑ e : Fin 8, ∑ h : Fin 256, (a e h * g e) * w e h) + ∑ e : Fin 8, g e * b e
      = ∑ e : Fin 8, g e * ((∑ h : Fin 256, a e h * w e h) + b e) := by
  rw [← Finset.sum_add_distrib]
  refine Finset.sum_congr rfl fun e _ => ?_
  rw [EReal.left_distrib_of_nonneg_of_ne_top (hg e).1 (hg e).2, mul_sum_of_mem _ (hg e)]
  congr 1
  refine Finset.sum_congr rfl fun h _ => ?_
  rw [mul_comm (a e h) (g e), mul_assoc]

end Cert.Moe

end
-- ==== Proof.Spec.lean ====
/-
  The layer's mathematics for one token, on extended reals: the score of each of eight experts, the expert's two
  matrix products with a rectifier between them, and the sum over experts weighted by the gate of `Gate.lean`. Both
  programs are shown to compute `layer`.
-/
module

public import proofs.«01_k».proof.Proof.Gate

@[expose] public section

noncomputable section

namespace Cert.Moe

open Idealize.ShloMosaic
open scoped BigOperators

/-- The score of expert `e` for the token `x`: the logistic function of their inner product. -/
def prob (x : Fin 1024 → EReal) (wr : Fin 8 → Fin 1024 → EReal) (e : Fin 8) : EReal :=
  Ideal.logistic (∑ d, x d * wr e d)

/-- Every score lies between zero and one. -/
theorem prob_mem (x : Fin 1024 → EReal) (wr : Fin 8 → Fin 1024 → EReal) (e : Fin 8) : 0 ≤ prob x wr e ∧ prob x wr e ≤ 1 :=
  logistic_mem _

/-- Expert `e`'s hidden unit `h`: an inner product, a bias, and everything below zero cut to zero. -/
def hidden (x : Fin 1024 → EReal) (w1 : Fin 8 → Fin 1024 → Fin 256 → EReal) (b1 : Fin 8 → Fin 256 → EReal)
    (e : Fin 8) (h : Fin 256) : EReal :=
  max ((∑ d, x d * w1 e d h) + b1 e h) 0

/-- The layer's result for one token at feature `d`: the experts' outputs, each weighted by its gate, summed. -/
def layer (x : Fin 1024 → EReal) (wr : Fin 8 → Fin 1024 → EReal) (w1 : Fin 8 → Fin 1024 → Fin 256 → EReal)
    (b1 : Fin 8 → Fin 256 → EReal) (w2 : Fin 8 → Fin 256 → Fin 1024 → EReal) (b2 : Fin 8 → Fin 1024 → EReal)
    (d : Fin 1024) : EReal :=
  ∑ e, gate (prob x wr) e * ((∑ h, hidden x w1 b1 e h * w2 e h d) + b2 e d)

/-- The expert that column `k` of the 2048 hidden columns belongs to. -/
def expertOf (k : Fin 2048) : Fin 8 := ⟨k.val / 256, by omega⟩

/-- The hidden unit of that expert that column `k` holds. -/
def unitOf (k : Fin 2048) : Fin 256 := ⟨k.val % 256, Nat.mod_lt _ (by decide)⟩

/-- One sum over all 2048 gated hidden columns, plus the gated biases, is the layer: the gates are finite and not
    negative, so each comes out of its expert's sum. -/
theorem layer_of_columns (x : Fin 1024 → EReal) (wr : Fin 8 → Fin 1024 → EReal) (w1 : Fin 8 → Fin 1024 → Fin 256 → EReal)
    (b1 : Fin 8 → Fin 256 → EReal) (w2 : Fin 8 → Fin 256 → Fin 1024 → EReal) (b2 : Fin 8 → Fin 1024 → EReal) (d : Fin 1024) :
    (∑ k : Fin 2048, (hidden x w1 b1 (expertOf k) (unitOf k) * gate (prob x wr) (expertOf k)) * w2 (expertOf k) (unitOf k) d)
        + ∑ e, gate (prob x wr) e * b2 e d
      = layer x wr w1 b1 w2 b2 d := by
  have he : ∀ (e : Fin 8) (h : Fin 256), expertOf ⟨e.val * 256 + h.val, by omega⟩ = e := fun e h =>
    Fin.ext (by show (e.val * 256 + h.val) / 256 = e.val; omega)
  have hu : ∀ (e : Fin 8) (h : Fin 256), unitOf ⟨e.val * 256 + h.val, by omega⟩ = h := fun e h =>
    Fin.ext (by show (e.val * 256 + h.val) % 256 = h.val; omega)
  rw [sum_columns]
  simp only [he, hu]
  exact weighted_sum (gate_mem (prob_mem x wr)) (fun e h => hidden x w1 b1 e h) (fun e h => w2 e h d) (fun e => b2 e d)

end Cert.Moe

end
-- ==== Proof.TopK.lean ====
/-
  The host's top-k with k = 1 along the last of two axes, eight places long: the value it returns is the row's greatest,
  and the position it returns is the first place that holds it.
-/
module

public import proofs.«01_k».proof.Proof.Gate
public import Idealize.ShloMosaic.PureOps.ShapeOps
public import Idealize.ShloMosaic.Lib.SortFacts
public import Idealize.ShloMosaic.Lib.ValueIdx

@[expose] public section

noncomputable section

namespace Cert.Moe

open Idealize.ShloMosaic Idealize.ShloMosaic.ValueIdx

/-- What a stable sort by descending score puts first: an entry of the list whose score none exceeds and whose score
    every entry listed before it stays below. -/
theorem head_stableSort (p : Fin 8 → EReal) (l : List (Fin 8)) (hl : l.Pairwise (· < ·)) (e : Fin 8) (r : List (Fin 8))
    (h : stableSort (fun x y => decide (p y < p x)) l = e :: r) :
    e ∈ l ∧ (∀ f ∈ l, p f ≤ p e) ∧ ∀ f ∈ l, f < e → p f < p e := by
  induction l generalizing e r with
  | nil => simp [stableSort] at h
  | cons a l ih =>
    obtain ⟨ha, hl'⟩ := List.pairwise_cons.mp hl
    unfold stableSort at h
    cases hs : stableSort (fun x y => decide (p y < p x)) l with
    | nil =>
      have hlen := length_stableSort (fun x y => decide (p y < p x)) l
      rw [hs] at hlen
      have hnil : l = [] := List.eq_nil_of_length_eq_zero hlen.symm
      subst hnil
      rw [hs] at h
      unfold insertBefore at h
      obtain ⟨rfl, -⟩ := List.cons.inj h
      exact ⟨by simp, by simp, by simp⟩
    | cons b q =>
      obtain ⟨hb, hmax, hfirst⟩ := ih hl' b q hs
      rw [hs] at h
      unfold insertBefore at h
      split at h
      · next hab =>
        have hab' : p a < p b := by simpa using hab
        obtain ⟨rfl, -⟩ := List.cons.inj h
        refine ⟨List.mem_cons_of_mem _ hb, fun f hf => ?_, fun f hf hlt => ?_⟩
        · rcases List.mem_cons.mp hf with rfl | hf
          · exact le_of_lt hab'
          · exact hmax f hf
        · rcases List.mem_cons.mp hf with rfl | hf
          · exact hab'
          · exact hfirst f hf hlt
      · next hab =>
        have hab' : p b ≤ p a := by simpa using hab
        obtain ⟨rfl, -⟩ := List.cons.inj h
        refine ⟨by simp, fun f hf => ?_, fun f hf hlt => ?_⟩
        · rcases List.mem_cons.mp hf with rfl | hf
          · exact le_refl _
          · exact le_trans (hmax f hf) hab'
        · rcases List.mem_cons.mp hf with rfl | hf
          · exact absurd hlt (lt_irrefl _)
          · exact absurd hlt (not_lt.mpr (le_of_lt (ha f hf)))

/-- Place zero of the eight positions sorted by descending score is the first place that holds the greatest score. -/
theorem isTop_sortedFrom (p : Fin 8 → EReal) : IsTop p (sortedFrom (fun x y : Fin 8 => decide (p y < p x)) 0) := by
  cases hs : sortPositions 8 (fun x y : Fin 8 => decide (p y < p x)) with
  | nil =>
    have hlen := length_sortPositions 8 (fun x y : Fin 8 => decide (p y < p x))
    rw [hs] at hlen
    exact absurd hlen (by decide)
  | cons e r =>
    have he : sortedFrom (fun x y : Fin 8 => decide (p y < p x)) 0 = e := by
      unfold sortedFrom
      rw [List.get_of_eq hs]
      rfl
    rw [he]
    obtain ⟨-, h1, h2⟩ := head_stableSort p (List.finRange 8) (List.pairwise_lt_finRange 8) e r hs
    exact ⟨fun f => h1 f (List.mem_finRange f), fun f => h2 f (List.mem_finRange f)⟩

/-- The host's comparison "greater" of two extended reals, as the Boolean its sort asks for. -/
theorem cmpfTotal_gt_beq (x y : EReal) :
    (FloatOps.cmpfTotal (F := Ideal) (φ := .f32) .gt x y == 1#1) = decide (y < x) := by
  have h : FloatOps.cmpfTotal (F := Ideal) (φ := .f32) .gt x y = BitVec.ofBool (decide (y < x)) := rfl
  rw [h]
  cases decide (y < x) <;> rfl

/-- The greatest of a row of eight: the value and the position the host's top-k with k = 1 returns. -/
theorem topK_apply {n : Nat} (x : (⟨2, ![n, 8]⟩ : Shape).Idx → EReal)
    (h : (⟨2, ![n, 8]⟩ : Shape).Slices (fun _ => 0) ⟨2, ![n, 1]⟩) (r : Fin n) :
    ∃ e : Fin 8, IsTop (fun f => x (ix2 r f)) e
      ∧ (Host.topK (⟨2, ![n, 1]⟩ : Shape) 1 (FloatOps.cmpfTotal (F := Ideal) (φ := .f32) .gt) x h).1 (ix2 r 0) = x (ix2 r e)
      ∧ (Host.topK (⟨2, ![n, 1]⟩ : Shape) 1 (FloatOps.cmpfTotal (F := Ideal) (φ := .f32) .gt) x h).2 (ix2 r 0) = BitVec.ofNat 32 e.val := by
  have hd : 1 < (⟨2, ![n, 8]⟩ : Shape).rank := Nat.one_lt_two
  have halong : ∀ (j : (⟨2, ![n, 8]⟩ : Shape).Idx) (k : Fin 8), (j 0).val = r.val →
      j.along (⟨1, hd⟩ : Fin (⟨2, ![n, 8]⟩ : Shape).rank) k = ix2 r k := fun j k hj => by
    funext a
    match a with
    | ⟨0, _⟩ => exact Fin.ext hj
    | ⟨1, _⟩ => rfl
  have hfrom : ∀ (j : (⟨2, ![n, 8]⟩ : Shape).Idx), (j 0).val = r.val → j 1 = (0 : Fin 8) →
      j.along (⟨1, hd⟩ : Fin (⟨2, ![n, 8]⟩ : Shape).rank) (sortedFrom (n := 8) (fun a b : Fin 8 =>
          FloatOps.cmpfTotal (F := Ideal) (φ := .f32) .gt (x (j.along ⟨1, hd⟩ a)) (x (j.along ⟨1, hd⟩ b)) == 1#1) (j 1))
        = ix2 r (sortedFrom (fun a b : Fin 8 => decide (x (ix2 r b) < x (ix2 r a))) 0) := fun j h0 h1 => by
    rw [halong j _ h0, h1]
    simp only [halong j _ h0, cmpfTotal_gt_beq]
  refine ⟨_, isTop_sortedFrom fun f => x (ix2 r f), ?_, ?_⟩
  · unfold Host.topK Host.sort2
    simp only [dif_pos hd]
    exact congrArg x (hfrom _ (Nat.zero_add _) rfl)
  · unfold Host.topK Host.sort2
    simp only [dif_pos hd]
    exact congrArg (iotaInDim (⟨2, ![n, 8]⟩ : Shape) 32 ⟨1, hd⟩) (hfrom _ (Nat.zero_add _) rfl)

end Cert.Moe

end
-- ==== Proof.Reference.lean ====
/-
  The reference read at one entry of its result: it is the layer of `Spec.lean` at that token and feature.
-/
module

public import proofs.«01_k».proof.Proof.Spec
public import proofs.«01_k».proof.Proof.TopK
public import proofs.«01_k».proof.Proof.Gen.ReferenceIdeal.Read
public import Idealize.ShloMosaic.Lib.IdealHost

@[expose] public section

noncomputable section

namespace Cert.Moe.Reference

open Idealize.ShloMosaic Idealize.ShloMosaic.ValueIdx
open Cert.ReferenceIdeal Cert.ReferenceIdeal.Gen Cert.ReferenceIdeal.Read
open scoped BigOperators

variable (x0 : (⟨S1x2048x1024, .f32⟩ : BufTy).Contents (Elt Ideal)) (x1 : (⟨S8x1024, .f32⟩ : BufTy).Contents (Elt Ideal))
  (x2 : (⟨S8x1024x256, .f32⟩ : BufTy).Contents (Elt Ideal)) (x3 : (⟨S8x256, .f32⟩ : BufTy).Contents (Elt Ideal))
  (x4 : (⟨S8x256x1024, .f32⟩ : BufTy).Contents (Elt Ideal)) (x5 : (⟨S8x1024, .f32⟩ : BufTy).Contents (Elt Ideal))

/-- Token `r`, as a row of features. -/
abbrev token (r : Fin 2048) : Fin 1024 → EReal := fun d => x0 (ix3 0 r d)

/-- The router's matrix, by expert and feature. -/
abbrev mat (n k : Nat) (x : (⟨2, ![n, k]⟩ : Shape).Idx → EReal) : Fin n → Fin k → EReal := fun e d => x (ix2 e d)

/-- A stack of matrices, by expert, row and column. -/
abbrev stack (n k l : Nat) (x : (⟨3, ![n, k, l]⟩ : Shape).Idx → EReal) : Fin n → Fin k → Fin l → EReal :=
  fun e d h => x (ix3 e d h)

/-- The reshaped tokens: the leading axis of size one is gone. -/
theorem tokens_apply (i : S2048x1024.Idx) : val_main_v0 (F := Ideal) x0 i = x0 (ix3 0 (i 0) (i 1)) := by
  have h0 : (i 0).val < 2048 := (i 0).isLt
  have h1 : (i 1).val < 1024 := (i 1).isLt
  rw [val_main_v0_apply]
  congr 1
  funext a
  apply Fin.ext
  match a with
  | ⟨0, _⟩ => rfl
  | ⟨1, _⟩ => show ((i 0).val * 1024 + (i 1).val) / 1024 % 2048 = (i 0).val; omega
  | ⟨2, _⟩ => show ((i 0).val * 1024 + (i 1).val) % 1024 = (i 1).val; omega

/-- The scores: the reference writes the logistic function out as `1 / (1 + exp (-s))`. -/
theorem scores_apply (r : Fin 2048) (e : Fin 8) :
    val_main_v8 (F := Ideal) x0 x1 (ix2 r e) = prob (token x0 r) (mat 8 1024 x1) e := by
  have hs : val_main_v2 (F := Ideal) x0 x1 (ix2 r e) = ∑ d, token x0 r d * mat 8 1024 x1 e d := by
    rw [val_main_v2_apply]
    refine Finset.sum_congr rfl fun d _ => ?_
    rw [tokens_apply, val_main_v1_apply]
    congr 1
    congr 1
    exact eq_ix2 _
  have h5 : val_main_v5 (F := Ideal) (ix2 r e) = (1 : EReal) := by
    rw [val_main_v5_apply]; exact Ideal.ofBits_one_f32
  have h7 : val_main_v7 (F := Ideal) (ix2 r e) = (1 : EReal) := by
    rw [val_main_v7_apply]; exact Ideal.ofBits_one_f32
  rw [val_main_v8_apply, val_main_v6_apply, val_main_v4_apply, val_main_v3_apply, h5, h7, hs]
  rfl

/-- The one-hot row times the greatest score, summed over the single position kept, is the gate. -/
theorem gates_apply (r : Fin 2048) (e : Fin 8) :
    val_main_v13 (F := Ideal) x0 x1 (ix2 r e) = gate (prob (token x0 r) (mat 8 1024 x1)) e := by
  obtain ⟨t, ht, hv, hi⟩ := topK_apply (val_main_v8 (F := Ideal) x0 x1) sliceFits_S2048x8_S2048x1 r
  have hp : (fun f => val_main_v8 (F := Ideal) x0 x1 (ix2 r f)) = prob (token x0 r) (mat 8 1024 x1) :=
    funext fun f => scores_apply x0 x1 r f
  rw [hp] at ht
  rw [scores_apply] at hv
  have hval : val_main_v11 (F := Ideal) x0 x1 (idx_main_v13 (ix2 r e) 0) = prob (token x0 r) (mat 8 1024 x1) t := by
    rw [val_main_v11_apply, val_main_v10_apply]
    refine Eq.trans (congrArg (val_main_values (F := Ideal) x0 x1) ?_) hv
    exact eq_ix2 _
  have hidx : val_main_call0_v2 (F := Ideal) x0 x1 (idx_main_v13 (ix2 r e) 0) = BitVec.ofNat 32 t.val := by
    rw [val_main_call0_v2_apply, val_main_call0_v0_apply]
    refine Eq.trans (congrArg (val_main_indices (F := Ideal) x0 x1) ?_) hi
    exact eq_ix2 _
  have hlane : val_main_call0_v3 (F := Ideal) (idx_main_v13 (ix2 r e) 0) = BitVec.ofNat 32 e.val := by
    rw [val_main_call0_v3_apply, val_main_call0_v1_apply]
  have hone : val_main_v9 (F := Ideal) x0 x1 (idx_main_v13 (ix2 r e) 0) = if t = e then (1 : EReal) else 0 := by
    rw [val_main_v9_apply, val_main_call0_v4_apply, hidx, hlane]
    have key : ∀ t e : Fin 8, (IntOp.cmpi .eq (BitVec.ofNat 32 t.val) (BitVec.ofNat 32 e.val)).toNat = if t = e then 1 else 0 := by
      decide
    show (((IntOp.cmpi .eq (BitVec.ofNat 32 t.val) (BitVec.ofNat 32 e.val)).toNat : ℝ) : EReal) = _
    rw [key]
    split <;> simp
  have h0 : val_main_cst_1 (F := Ideal) (Shape.Idx.first h_S_) = (0 : EReal) := Ideal.ofBits_zero_f32
  rw [val_main_v13_apply, h0, zero_add, Fin.sum_univ_one, val_main_v12_apply, hone, hval]
  show (if t = e then (1 : EReal) else 0) * prob (token x0 r) (mat 8 1024 x1) t = _
  by_cases hte : t = e
  · subst hte
    rw [if_pos rfl, one_mul, gate_of_isTop ht]
  · rw [if_neg hte, zero_mul, gate_of_ne ht (Ne.symm hte)]

/-- An expert's hidden units for a token. -/
theorem hidden_apply (r : Fin 2048) (e : Fin 8) (h : Fin 256) :
    val_main_v18 (F := Ideal) x0 x2 x3 (ix3 r e h)
      = hidden (token x0 r) (stack 8 1024 256 x2) (mat 8 256 x3) e h := by
  have h14 : val_main_v14 (F := Ideal) x0 x2 (ix3 r e h) = ∑ d, token x0 r d * stack 8 1024 256 x2 e d h := by
    rw [val_main_v14_apply]
    refine Finset.sum_congr rfl fun d _ => ?_
    rw [tokens_apply]
    congr 1
    congr 1
    exact eq_ix3 _
  have h16 : val_main_v16 (F := Ideal) x3 (ix3 r e h) = mat 8 256 x3 e h := by
    rw [val_main_v16_apply, val_main_v15_apply]
    exact congrArg x3 (eq_ix2 _)
  have hz : val_main_call1_v0 (F := Ideal) (ix3 r e h) = (0 : EReal) := by
    rw [val_main_call1_v0_apply]; exact Ideal.ofBits_zero_f32
  rw [val_main_v18_apply, val_main_v17_apply, h14, h16, hz]
  rfl

/-- The weighted outputs of the experts, summed: the layer. -/
theorem sum_apply (r : Fin 2048) (d : Fin 1024) :
    val_main_v27 (F := Ideal) x0 x1 x2 x3 x4 x5 (ix2 r d)
      = layer (token x0 r) (mat 8 1024 x1) (stack 8 1024 256 x2) (mat 8 256 x3) (stack 8 256 1024 x4) (mat 8 1024 x5) d := by
  have h0 : val_main_cst_2 (F := Ideal) (Shape.Idx.first h_S_) = (0 : EReal) := Ideal.ofBits_zero_f32
  rw [val_main_v27_apply, h0, zero_add]
  refine Finset.sum_congr rfl fun e _ => ?_
  have hg : val_main_v25 (F := Ideal) x0 x1 (idx_main_v27 (ix2 r d) e) = gate (prob (token x0 r) (mat 8 1024 x1)) e := by
    rw [val_main_v25_apply, val_main_v24_apply]
    refine Eq.trans (congrArg (val_main_v13 (F := Ideal) x0 x1) ?_) (gates_apply x0 x1 r e)
    exact eq_ix2 _
  have ho : val_main_v20 (F := Ideal) x0 x2 x3 x4 (idx_main_v27 (ix2 r d) e)
      = ∑ h, hidden (token x0 r) (stack 8 1024 256 x2) (mat 8 256 x3) e h * stack 8 256 1024 x4 e h d := by
    rw [val_main_v20_apply, val_main_v19_apply]
    refine Finset.sum_congr rfl fun h _ => ?_
    rw [mul_comm, ← hidden_apply x0 x2 x3 r e h]
    congr 1
    · congr 1
      exact eq_ix3 _
    · exact congrArg x4 (eq_ix3 _)
  have hb : val_main_v22 (F := Ideal) x5 (idx_main_v27 (ix2 r d) e) = mat 8 1024 x5 e d := by
    rw [val_main_v22_apply, val_main_v21_apply]
    exact congrArg x5 (eq_ix2 _)
  rw [val_main_v26_apply, val_main_v23_apply, hg, ho, hb]
  rfl

end Cert.Moe.Reference

end
-- ==== Proof.FirstMax.lean ====
/-
  The kernel finds the first place of the greatest of eight scores in two folds: the maximum of the scores, then the
  minimum of the lane numbers of the places that hold it, every other place counting as lane eight.
-/
module

public import proofs.«01_k».proof.Proof.Gate
public import Idealize.ShloMosaic.Lib.SortNet.Extract
public import Mathlib.Data.Finset.Fold

@[expose] public section

noncomputable section

namespace Cert.Moe

open Idealize.ShloMosaic

/-- Some place is the first that holds the greatest score. -/
theorem exists_isTop (p : Fin 8 → EReal) : ∃ e, IsTop p e := by
  classical
  obtain ⟨m, -, hm⟩ := Finset.exists_max_image Finset.univ p Finset.univ_nonempty
  have hne : (Finset.univ.filter fun e => p e = p m).Nonempty := ⟨m, by simp⟩
  have hmem := Finset.min'_mem _ hne
  have hpe : p ((Finset.univ.filter fun e => p e = p m).min' hne) = p m := (Finset.mem_filter.mp hmem).2
  refine ⟨(Finset.univ.filter fun e => p e = p m).min' hne, fun f => hpe.symm ▸ hm f (Finset.mem_univ f), fun f hf => ?_⟩
  rw [hpe]
  refine lt_of_le_of_ne (hm f (Finset.mem_univ f)) fun hfe => ?_
  exact absurd (Finset.min'_le _ f (Finset.mem_filter.mpr ⟨Finset.mem_univ f, hfe⟩)) (not_le.mpr hf)

/-- The maximum fold over the eight scores, from below all of them, is the score at the top place. -/
theorem fold_max_of_isTop {p : Fin 8 → EReal} {t : Fin 8} (ht : IsTop p t) : Finset.univ.fold max (⊥ : EReal) p = p t :=
  le_antisymm (Finset.fold_max_le _ |>.mpr ⟨bot_le, fun f _ => ht.1 f⟩)
    (Finset.le_fold_max _ |>.mpr (Or.inr ⟨t, Finset.mem_univ t, le_refl _⟩))

/-- The lane word the kernel looks at in place `e`: its own number where the score equals `v`, eight elsewhere. -/
def laneWord (p : Fin 8 → EReal) (v : EReal) (e : Fin 8) : BitVec 32 :=
  Scalar.select (BitVec.ofBool (decide (p e = v))) (BitVec.ofNat 32 e.val) 8#32

/-- A lane word as an integer. -/
theorem laneWord_toInt (p : Fin 8 → EReal) (v : EReal) (e : Fin 8) :
    (laneWord p v e).toInt = if p e = v then (e.val : Int) else 8 := by
  unfold laneWord Scalar.select
  have he : ∀ e : Fin 8, (BitVec.ofNat 32 e.val).toInt = (e.val : Int) := by decide
  by_cases h : p e = v
  · rw [decide_eq_true h, if_pos h]
    exact he e
  · rw [decide_eq_false h, if_neg h]
    rfl

/-- The minimum of the lane words is the top place's lane number. -/
theorem fold_minsi_laneWord {p : Fin 8 → EReal} {t : Fin 8} (ht : IsTop p t) :
    Finset.univ.fold IntOp.minsi (2147483647#32) (laneWord p (p t)) = BitVec.ofNat 32 t.val := by
  apply BitVec.eq_of_toInt_eq
  rw [← Finset.fold_hom (op' := min) (m := BitVec.toInt) (fun a b => SortNet.toInt_minsi a b)]
  have hw : ∀ e : Fin 8, (BitVec.ofNat 32 e.val).toInt = (e.val : Int) := by decide
  rw [hw t]
  apply le_antisymm
  · refine (Finset.fold_min_le _).mpr (Or.inr ⟨t, Finset.mem_univ t, ?_⟩)
    rw [laneWord_toInt, if_pos rfl]
  · refine (Finset.le_fold_min _).mpr ⟨?_, fun e _ => ?_⟩
    · have := t.isLt
      show (t.val : Int) ≤ 2147483647
      omega
    · rw [laneWord_toInt]
      have := t.isLt
      split
      · rename_i h
        have : t ≤ e := not_lt.mp fun hlt => absurd h (ne_of_lt (ht.2 e hlt))
        exact Int.ofNat_le.mpr this
      · omega

/-- Keeping the greatest score where the lane number equals the least lane word, and zero elsewhere, is the gate. -/
theorem select_lane_eq_gate {p : Fin 8 → EReal} {t : Fin 8} (ht : IsTop p t) (e : Fin 8) :
    Scalar.select (IntOp.cmpi .eq (BitVec.ofNat 32 e.val) (BitVec.ofNat 32 t.val)) (p t) (0 : EReal) = gate p e := by
  have key : ∀ e t : Fin 8, IntOp.cmpi .eq (BitVec.ofNat 32 e.val) (BitVec.ofNat 32 t.val) = if e = t then 1#1 else 0#1 := by
    decide
  rw [key]
  by_cases h : e = t
  · subst h
    rw [if_pos rfl, gate_of_isTop ht]
    rfl
  · rw [if_neg h, gate_of_ne ht h]
    rfl

end Cert.Moe

end
-- ==== Proof.Payload.lean ====
/-
  What the kernel stores, read at one entry on extended reals: the gates of a block of 256 tokens, one expert's gated
  hidden units, and the closing pair of matrix products. Format changes are the identity there, so only the reading of
  indices is left.
-/
module

public import proofs.«01_k».proof.Proof.Spec
public import proofs.«01_k».proof.Proof.FirstMax
public import proofs.«01_k».proof.Proof.Gen.KernelIdeal.Skeleton
public import Idealize.ShloMosaic.Lib.MatmulPlain
public import Idealize.ShloMosaic.Lib.ValueIdx
public import Idealize.ShloMosaic.Lib.Pipeline.Value

@[expose] public section

noncomputable section

namespace Cert.Moe.Kernel

open Idealize.ShloMosaic Idealize.ShloMosaic.ValueIdx
open Cert.KernelIdeal Cert.KernelIdeal.Gen
open scoped BigOperators

/-- A column of row values, spread over the eight lanes, reads the row's value. -/
theorem spread_apply {α : Type} (v : S256.Idx → α) (r : Fin 256) (e : Fin 8) :
    broadcastTo S256x8 (shapeCast S256x1 v shapeCasts_S256_S256x1) broadcasts_S256x1_S256x8 (ix2 r e) = v (ix1 r) := by
  rw [broadcastTo_apply _ _ (ix2 r e) (ix2 r 0) (fun a => by
    match a with
    | ⟨0, _⟩ => show r.val = if (256 : Nat) = 1 then 0 else r.val; rw [if_neg (by decide)]
    | ⟨1, _⟩ => show 0 = if (1 : Nat) = 1 then 0 else e.val; rw [if_pos rfl])]
  exact shapeCast_apply v _ _ (ix1 r) (by
    rw [Shape.rowMajor_val_two, Shape.rowMajor_val_one]
    show r.val = r.val * 1 + 0
    omega)

/-- The index that puts lane `k` into row `j` of the scores. -/
theorem lift_scores (j : S256.Idx) (k : Fin 8) : reduces_S256x8_S256.lift j k = ix2 (j 0) k := by
  funext a
  apply Fin.ext
  match a with
  | ⟨0, _⟩ => rfl
  | ⟨1, _⟩ => rfl

/-- The word of minus infinity is the least extended real. -/
theorem ofBits_negInf : Ideal.ofBits .f32 0xFF800000#32 = (⊥ : EReal) := by
  simp [Ideal.ofBits, Ideal.ieee]

/-- The gates: of the eight scores of token `r` the first greatest is kept and the others are zero. -/
theorem gates_apply (x : Vec Ideal S256x1024 .f32) (wr : Vec Ideal S8x1024 .f32) (r : Fin 256) (e : Fin 8) :
    k0_pay13 (F := Ideal) x wr (ix2 r e) = gate (prob (fun d => x (ix2 r d)) (fun f d => wr (ix2 f d))) e := by
  obtain ⟨t, ht⟩ := exists_isTop (prob (fun d => x (ix2 r d)) (fun f d => wr (ix2 f d)))
  unfold k0_pay13
  dsimp only
  -- the scores
  have hs : ∀ f : Fin 8, logistic (matmul dot_S256x1024_S8x1024_S256x8_1_1_0_0_n_n none (k0_pay12 (F := Ideal) x)
      (truncf .bf16 wr bitsLt_bf16_f32) (constant S256x8 .f32 0x00000000#32)) (ix2 r f)
        = prob (fun d => x (ix2 r d)) (fun f d => wr (ix2 f d)) f := fun f => by
    refine congrArg Ideal.logistic ?_
    refine (Ideal.matmul_transposedRhs_apply none _ _ _ r f).trans ?_
    rw [constant_apply, Ideal.ofBits_zero_f32, zero_add]
    refine Finset.sum_congr rfl fun d _ => ?_
    unfold k0_pay12
    dsimp only
    rw [truncf_apply, truncf_apply, shapeCast_self]
  generalize logistic (matmul dot_S256x1024_S8x1024_S256x8_1_1_0_0_n_n none (k0_pay12 (F := Ideal) x)
      (truncf .bf16 wr bitsLt_bf16_f32) (constant S256x8 .f32 0x00000000#32)) = s at hs ⊢
  generalize prob (fun d => x (ix2 r d)) (fun f d => wr (ix2 f d)) = p at hs ht ⊢
  -- the greatest of them
  have hmax : multiReduction (F := Ideal) .maximumf [1] S256 s 0xFF800000#32 reduces_S256x8_S256 (.inl rfl) rfl (ix1 r) = p t := by
    refine (Ideal.multiReduction_maximumf_single s _ reduces_S256x8_S256 (.inl rfl) rfl (ix1 r)).trans ?_
    have hf : s ∘ reduces_S256x8_S256.lift (ix1 r) = p := funext fun k => (congrArg s (lift_scores (ix1 r) k)).trans (hs k)
    rw [hf, ← fold_max_of_isTop ht]
    exact congrArg (fun b => Finset.univ.fold max b p) ofBits_negInf
  generalize multiReduction (F := Ideal) .maximumf [1] S256 s 0xFF800000#32 reduces_S256x8_S256 (.inl rfl) rfl = mx at hmax ⊢
  -- the lane words, and the least of them
  have hlane : ∀ k : Fin 8, select (cmpf .oeq s (broadcastTo S256x8 (shapeCast S256x1 mx shapeCasts_S256_S256x1) broadcasts_S256x1_S256x8))
      (iota .tc S256x8 32 [1] iota_S256x8_d1_w32) (broadcast S256x8 8#32) (ix2 r k) = laneWord p (p t) k := fun k => by
    rw [select_apply, cmpf_apply, spread_apply, hs, hmax, iota_single_apply]
    rfl
  have hmin : multiReductionI .minsi [1] S256 (select (cmpf .oeq s (broadcastTo S256x8 (shapeCast S256x1 mx shapeCasts_S256_S256x1) broadcasts_S256x1_S256x8))
      (iota .tc S256x8 32 [1] iota_S256x8_d1_w32) (broadcast S256x8 8#32)) 2147483647#32 reduces_S256x8_S256 rfl (ix1 r)
        = BitVec.ofNat 32 t.val := by
    refine (multiReductionI_eq_fold .minsi _ _ reduces_S256x8_S256 rfl (ix1 r)).trans ?_
    refine (reduces_S256x8_S256.fold_filter_drop_single IntOp.minsi _ _ (ix1 r)).trans ?_
    rw [← fold_minsi_laneWord ht]
    refine congrArg (Finset.univ.fold IntOp.minsi (2147483647#32)) (funext fun k => ?_)
    exact (congrArg _ (lift_scores (ix1 r) k)).trans (hlane k)
  rw [select_apply, shapeCast_self, spread_apply, hmax, ← select_lane_eq_gate ht e]
  show Scalar.select (IntOp.cmpi .eq _ _) (p t) (Ideal.ofBits .f32 0x00000000#32) = _
  rw [spread_apply, hmin, iota_single_apply, Ideal.ofBits_zero_f32]

/-- One expert's gated hidden units for a block of tokens, as the kernel computes them: the product with the expert's
    first matrix, its bias, the rectifier, and the expert's column of the gates. -/
def gatedBlock (x : FVec Ideal S256x1024 .bf16) (g : FVec Ideal S256x8 .f32) (w : FVec Ideal S1x1024x256 .bf16)
    (b : FVec Ideal S1x256 .f32) (off : Fin 2 → Nat) (h : S256x8.Slices off S256x1) : FVec Ideal S256x256 .bf16 :=
  shapeCast S256x256 (truncf .bf16 (mulf
    (maximumf
      (addf (matmul dot_S256x1024_S1024x256_S256x256_1_0_0_1_n_n none x (shapeCast S1024x256 w shapeCasts_S1x1024x256_S1024x256)
          (constant S256x256 .f32 0x00000000#32))
        (broadcastTo S256x256 (shapeCast S1x256 (shapeCast S256 b shapeCasts_S1x256_S256) shapeCasts_S256_S1x256) broadcasts_S1x256_S256x256))
      (broadcast S256x256 (Scalar.ofBits .f32 0x00000000#32)))
    (broadcastTo S256x256 (extractStridedSlice S256x1 off g h) broadcasts_S256x1_S256x256)) bitsLt_bf16_f32) shapeCasts_S256x256_S256x256

/-- A gated block at one entry. -/
theorem gatedBlock_apply (x : FVec Ideal S256x1024 .bf16) (g : FVec Ideal S256x8 .f32) (w : FVec Ideal S1x1024x256 .bf16)
    (b : FVec Ideal S1x256 .f32) (off : Fin 2 → Nat) (hsl : S256x8.Slices off S256x1) (e : Fin 8) (h0 : off 0 = 0)
    (h1 : off 1 = e.val) (r c : Fin 256) :
    gatedBlock x g w b off hsl (ix2 r c)
      = max ((∑ d : Fin 1024, x (ix2 r d) * w (ix3 0 d c)) + b (ix2 0 c)) 0 * g (ix2 r e) := by
  unfold gatedBlock
  rw [shapeCast_self, truncf_apply, mulf_apply, maximumf_apply, addf_apply]
  have hm : matmul dot_S256x1024_S1024x256_S256x256_1_0_0_1_n_n none x (shapeCast S1024x256 w shapeCasts_S1x1024x256_S1024x256)
      (constant S256x256 .f32 0x00000000#32) (ix2 r c) = ∑ d : Fin 1024, x (ix2 r d) * w (ix3 0 d c) := by
    refine (Ideal.matmul_plain_apply none _ _ _ r c).trans ?_
    rw [constant_apply, Ideal.ofBits_zero_f32, zero_add]
    refine Finset.sum_congr rfl fun d _ => congrArg (x (ix2 r d) * ·) ?_
    exact shapeCast_apply w _ _ (ix3 0 d c) (by
      rw [Shape.rowMajor_val_two, Shape.rowMajor_val_three]
      show (0 * 1024 + d.val) * 256 + c.val = d.val * 256 + c.val
      omega)
  have hb : broadcastTo S256x256 (shapeCast S1x256 (shapeCast S256 b shapeCasts_S1x256_S256) shapeCasts_S256_S1x256)
      broadcasts_S1x256_S256x256 (ix2 r c) = b (ix2 0 c) := by
    rw [broadcastTo_apply _ _ (ix2 r c) (ix2 0 c) (fun a => by
      match a with
      | ⟨0, _⟩ => show 0 = if (1 : Nat) = 1 then 0 else r.val; rw [if_pos rfl]
      | ⟨1, _⟩ => show c.val = if (256 : Nat) = 1 then 0 else c.val; rw [if_neg (by decide)])]
    rw [shapeCast_apply _ _ (ix2 0 c) (ix1 c) (by
      rw [Shape.rowMajor_val_two, Shape.rowMajor_val_one]
      show c.val = 0 * 256 + c.val
      omega)]
    exact shapeCast_apply b _ _ (ix2 0 c) (by
      rw [Shape.rowMajor_val_two, Shape.rowMajor_val_one]
      show 0 * 256 + c.val = c.val
      omega)
  have hg : broadcastTo S256x256 (extractStridedSlice S256x1 off g hsl) broadcasts_S256x1_S256x256 (ix2 r c) = g (ix2 r e) := by
    rw [broadcastTo_apply _ _ (ix2 r c) (ix2 r 0) (fun a => by
      match a with
      | ⟨0, _⟩ => show r.val = if (256 : Nat) = 1 then 0 else r.val; rw [if_neg (by decide)]
      | ⟨1, _⟩ => show 0 = if (1 : Nat) = 1 then 0 else c.val; rw [if_pos rfl])]
    exact extractStridedSlice_apply off g hsl (ix2 r 0) (ix2 r e) (fun a => by
      match a with
      | ⟨0, _⟩ => show r.val = off 0 + r.val; omega
      | ⟨1, _⟩ => show e.val = off 1 + 0; omega)
  have hz : (broadcast S256x256 (Scalar.ofBits .f32 0x00000000#32) : FVec Ideal S256x256 .f32) (ix2 r c) = (0 : EReal) :=
    Ideal.ofBits_zero_f32
  rw [hm, hb, hg, hz]

/-- The closing products at one entry: the hidden columns with the second matrices, and the gates with the biases. -/
theorem closing_apply (g : FVec Ideal S256x8 .f32) (hg : Vec Ideal S256x2048 .bf16) (w : Vec Ideal S2048x1024 .bf16)
    (b : Vec Ideal S8x1024 .f32) (r : Fin 256) (d : Fin 1024) :
    k0_pay2 (F := Ideal) g hg w b (ix2 r d)
      = (∑ k : Fin 2048, hg (ix2 r k) * w (ix2 k d)) + ∑ e : Fin 8, g (ix2 r e) * b (ix2 e d) := by
  unfold k0_pay2
  rw [addf_apply]
  congr 1
  · refine (Ideal.matmul_plain_apply none _ _ _ r d).trans ?_
    rw [constant_apply, Ideal.ofBits_zero_f32, zero_add]
  · refine (Ideal.matmul_plain_apply none _ _ _ r d).trans ?_
    rw [constant_apply, Ideal.ofBits_zero_f32, zero_add]
    rfl

/-- The tokens the kernel multiplies by are the block's own. -/
theorem tokens_eq (x : Vec Ideal S256x1024 .f32) : k0_pay12 (F := Ideal) x = x := by
  unfold k0_pay12
  dsimp only
  rw [shapeCast_self]
  rfl

/-- The stored copy of the first matrices is the first matrices. -/
theorem w1_eq (w : Vec Ideal S8x1024x256 .f32) : k0_pay3 (F := Ideal) w = w := by
  unfold k0_pay3
  dsimp only
  rw [shapeCast_self]
  rfl

/-- One expert's second matrix as stored: the leading axis of size one is gone. -/
theorem w2_apply (w : Vec Ideal S1x256x1024 .f32) (h : Fin 256) (d : Fin 1024) :
    k0_pay4 (F := Ideal) w (ix2 h d) = w (ix3 0 h d) := by
  unfold k0_pay4
  rw [shapeCast_self, truncf_apply]
  exact shapeCast_apply w _ _ (ix3 0 h d) (by
    rw [Shape.rowMajor_val_two, Shape.rowMajor_val_three]
    show (0 * 256 + h.val) * 1024 + d.val = h.val * 1024 + d.val
    omega)

end Cert.Moe.Kernel

end
-- ==== Proof.Tiles.lean ====
/-
  One grid point of the kernel: what it leaves in its output block, and at the first point what it leaves in the two
  scratch arrays it carries on. Both are lists of stores read back, and each list is a tiling, one tile per expert, whose
  tiles all have the same formula.
-/
module

public import proofs.«01_k».proof.Proof.Payload
public import proofs.«01_k».proof.Proof.Gen.KernelIdeal.Frame
public import Idealize.ShloMosaic.Lib.Pipeline.Value
public import Idealize.ShloMosaic.Lib.Pipeline.ValueKit.Tiles
public import Idealize.ShloMosaic.Lib.Tactic

@[expose] public section

noncomputable section

namespace Cert.Moe.Kernel

open Idealize.ShloMosaic Idealize.ShloMosaic.TcCoe Idealize.ShloMosaic.ValueIdx Idealize.SL.Sem
open Cert.KernelIdeal Cert.KernelIdeal.Gen
open scoped BigOperators

/-- The eight experts in the order in which a list of stores holds them, last first. -/
def lastFirst : List (Fin 8) := [7, 6, 5, 4, 3, 2, 1, 0]

/-- Every expert is in that list. -/
theorem mem_lastFirst (e : Fin 8) : e ∈ lastFirst := by
  revert e
  decide

/-- The box of expert `e` in the hidden columns. -/
def columnBox (e : Fin 8) : Rect S256x2048 :=
  Rect.unit ![0, e.val * 256] S256x256.size (fun a => by
    have := e.isLt
    match a with
    | ⟨0, _⟩ => show 0 + 256 ≤ 256; omega
    | ⟨1, _⟩ => show e.val * 256 + 256 ≤ 2048; omega)

/-- The box of expert `e` in the rows of the second matrices. -/
def rowBox (e : Fin 8) : Rect S2048x1024 :=
  Rect.unit ![e.val * 256, 0] S256x1024.size (fun a => by
    have := e.isLt
    match a with
    | ⟨0, _⟩ => show e.val * 256 + 256 ≤ 2048; omega
    | ⟨1, _⟩ => show 0 + 1024 ≤ 1024; omega)

/-- Expert `e`'s first matrix in the stack. -/
def firstBox (e : Fin 8) : Rect S8x1024x256 :=
  Rect.unit ![e.val, 0, 0] S1x1024x256.size (fun a => by
    have := e.isLt
    match a with
    | ⟨0, _⟩ => show e.val + 1 ≤ 8; omega
    | ⟨1, _⟩ => show 0 + 1024 ≤ 1024; omega
    | ⟨2, _⟩ => show 0 + 256 ≤ 256; omega)

/-- Expert `e`'s second matrix in the stack. -/
def secondBox (e : Fin 8) : Rect S8x256x1024 :=
  Rect.unit ![e.val, 0, 0] S1x256x1024.size (fun a => by
    have := e.isLt
    match a with
    | ⟨0, _⟩ => show e.val + 1 ≤ 8; omega
    | ⟨1, _⟩ => show 0 + 256 ≤ 256; omega
    | ⟨2, _⟩ => show 0 + 1024 ≤ 1024; omega)

/-- Expert `e`'s first bias in the stack. -/
def biasBox (e : Fin 8) : Rect S8x256 :=
  Rect.unit ![e.val, 0] S1x256.size (fun a => by
    have := e.isLt
    match a with
    | ⟨0, _⟩ => show e.val + 1 ≤ 8; omega
    | ⟨1, _⟩ => show 0 + 256 ≤ 256; omega)

/-- Expert `e`'s column of the gates. -/
theorem gateColumn (e : Fin 8) : S256x8.Slices ![0, e.val] S256x1 :=
  ⟨rfl, fun a => by
    have := e.isLt
    match a with
    | ⟨0, _⟩ => show 0 + 256 ≤ 256; omega
    | ⟨1, _⟩ => show e.val + 1 ≤ 8; omega⟩

/-- The store of expert `e`'s gated hidden units. -/
def columnPiece (x0 : Vec Ideal S256x1024 .f32) (x1 : Vec Ideal S8x1024 .f32) (x3 : Vec Ideal S8x256 .f32)
    (w : Vec Ideal S8x1024x256 .bf16) (e : Fin 8) : View.Piece (Elt Ideal) S256x2048 .bf16 :=
  ⟨columnBox e, gatedBlock (k0_pay12 x0) (k0_pay13 x0 x1) (View.ld w (firstBox e)) (View.ld x3 (biasBox e)) ![0, e.val] (gateColumn e)⟩

/-- The store of expert `e`'s second matrix. -/
def rowPiece (x4 : Vec Ideal S8x256x1024 .f32) (e : Fin 8) : View.Piece (Elt Ideal) S2048x1024 .bf16 :=
  ⟨rowBox e, k0_pay4 (View.ld x4 (secondBox e))⟩

/-- All hidden columns: column `k` holds its expert's unit, gated. -/
def columns (x0 : Vec Ideal S256x1024 .f32) (x1 : Vec Ideal S8x1024 .f32) (x3 : Vec Ideal S8x256 .f32)
    (w : Vec Ideal S8x1024x256 .bf16) : Vec Ideal S256x2048 .bf16 := fun y =>
  hidden (fun d => x0 (ix2 (y 0) d)) (fun e d h => w (ix3 e d h)) (fun e h => x3 (ix2 e h)) (expertOf (y 1)) (unitOf (y 1))
    * gate (prob (fun d => x0 (ix2 (y 0) d)) (fun e d => x1 (ix2 e d))) (expertOf (y 1))

/-- All rows of the second matrices: row `k` is its expert's row for that unit. -/
def rows (x4 : Vec Ideal S8x256x1024 .f32) : Vec Ideal S2048x1024 .bf16 := fun y =>
  x4 (ix3 (expertOf (y 0)) (unitOf (y 0)) (y 1))

/-- The block of expert `e`'s gated units agrees with the hidden columns wherever it lies among them. -/
theorem column_of_expert (x0 : Vec Ideal S256x1024 .f32) (x1 : Vec Ideal S8x1024 .f32) (x3 : Vec Ideal S8x256 .f32)
    (w : Vec Ideal S8x1024x256 .bf16) (e : Fin 8) (x : S256x256.Idx) (y : S256x2048.Idx) (h0 : (y 0).val = (x 0).val)
    (h1 : (y 1).val = e.val * 256 + (x 1).val) :
    gatedBlock (k0_pay12 x0) (k0_pay13 x0 x1) (View.ld w (firstBox e)) (View.ld x3 (biasBox e)) ![0, e.val] (gateColumn e) x
      = columns x0 x1 x3 w y := by
  have hx1 : (x 1).val < 256 := (x 1).isLt
  have hr : y 0 = x 0 := Fin.ext h0
  have h2 : expertOf (y 1) = e := Fin.ext (by show (y 1).val / 256 = e.val; omega)
  have h3 : unitOf (y 1) = x 1 := Fin.ext (by show (y 1).val % 256 = (x 1).val; omega)
  unfold columns
  rw [hr, h2, h3]
  refine (congrArg (gatedBlock (k0_pay12 x0) (k0_pay13 x0 x1) (View.ld w (firstBox e)) (View.ld x3 (biasBox e)) ![0, e.val] (gateColumn e))
    (eq_ix2 x)).trans ?_
  refine (gatedBlock_apply _ _ _ _ _ (gateColumn e) e rfl rfl (x 0) (x 1)).trans ?_
  rw [tokens_eq]
  refine congrArg₂ (· * ·) ?_ (gates_apply x0 x1 (x 0) e)
  unfold hidden
  refine congrArg (max · 0) (congrArg₂ (· + ·) ?_ ?_)
  · refine Finset.sum_congr rfl fun d _ => congrArg (x0 (ix2 (x 0) d) * ·) ?_
    exact View.ld_unit_apply_of w _ _ _ _ (ix3 e d (x 1)) (fun a => by
      match a with
      | ⟨0, _⟩ => rfl
      | ⟨1, _⟩ => exact (Nat.zero_add _).symm
      | ⟨2, _⟩ => exact (Nat.zero_add _).symm)
  · exact View.ld_unit_apply_of x3 _ _ _ _ (ix2 e (x 1)) (fun a => by
      match a with
      | ⟨0, _⟩ => rfl
      | ⟨1, _⟩ => exact (Nat.zero_add _).symm)

/-- Expert `e`'s stored second matrix agrees with the rows wherever it lies among them. -/
theorem row_of_expert (x4 : Vec Ideal S8x256x1024 .f32) (e : Fin 8) (x : S256x1024.Idx) (y : S2048x1024.Idx)
    (h0 : (y 0).val = e.val * 256 + (x 0).val) (h1 : (y 1).val = (x 1).val) :
    k0_pay4 (F := Ideal) (View.ld x4 (secondBox e)) x = rows x4 y := by
  have hx0 : (x 0).val < 256 := (x 0).isLt
  have hc : y 1 = x 1 := Fin.ext h1
  have h2 : expertOf (y 0) = e := Fin.ext (by show (y 0).val / 256 = e.val; omega)
  have h3 : unitOf (y 0) = x 0 := Fin.ext (by show (y 0).val % 256 = (x 0).val; omega)
  unfold rows
  rw [hc, h2, h3]
  refine (congrArg (k0_pay4 (F := Ideal) (View.ld x4 (secondBox e))) (eq_ix2 x)).trans ?_
  refine (w2_apply _ (x 0) (x 1)).trans ?_
  exact View.ld_unit_apply_of x4 _ _ _ _ (ix3 e (x 0) (x 1)) (fun a => by
    match a with
    | ⟨0, _⟩ => rfl
    | ⟨1, _⟩ => exact (Nat.zero_add _).symm
    | ⟨2, _⟩ => exact (Nat.zero_add _).symm)

/-- The eight stores of gated units together hold the hidden columns. -/
theorem canon_columns (x0 : Vec Ideal S256x1024 .f32) (x1 : Vec Ideal S8x1024 .f32) (x3 : Vec Ideal S8x256 .f32)
    (w : Vec Ideal S8x1024x256 .bf16) : View.canon (lastFirst.map (columnPiece x0 x1 x3 w)) = columns x0 x1 x3 w := by
  funext y
  refine View.canon_apply_of_pieces (columns x0 x1 x3 w) _ (fun p hp x => ?_) y ?_
  · obtain ⟨e, -, rfl⟩ := List.mem_map.mp hp
    refine column_of_expert x0 x1 x3 w e x ((columnBox e).emb x) ?_ ?_
    · show 0 + 1 * ((x : S256x256.Idx) 0).val = ((x : S256x256.Idx) 0).val
      omega
    · show e.val * 256 + 1 * ((x : S256x256.Idx) 1).val = e.val * 256 + ((x : S256x256.Idx) 1).val
      omega
  · refine ⟨_, List.mem_map.mpr ⟨expertOf (y 1), mem_lastFirst _, rfl⟩, ?_⟩
    show y ∈ (columnBox (expertOf (y 1))).set
    unfold columnBox
    rw [Rect.mem_set_unit]
    intro a
    match a with
    | ⟨0, _⟩ =>
      have h : (y 0).val < 256 := (y 0).isLt
      exact ⟨Nat.zero_le _, by show (y 0).val < 0 + 256; omega⟩
    | ⟨1, _⟩ =>
      exact ⟨by show (y 1).val / 256 * 256 ≤ (y 1).val; omega, by show (y 1).val < (y 1).val / 256 * 256 + 256; omega⟩

/-- The eight stores of second matrices together hold their rows. -/
theorem canon_rows (x4 : Vec Ideal S8x256x1024 .f32) : View.canon (lastFirst.map (rowPiece x4)) = rows x4 := by
  funext y
  refine View.canon_apply_of_pieces (rows x4) _ (fun p hp x => ?_) y ?_
  · obtain ⟨e, -, rfl⟩ := List.mem_map.mp hp
    refine row_of_expert x4 e x ((rowBox e).emb x) ?_ ?_
    · show e.val * 256 + 1 * ((x : S256x1024.Idx) 0).val = e.val * 256 + ((x : S256x1024.Idx) 0).val
      omega
    · show 0 + 1 * ((x : S256x1024.Idx) 1).val = ((x : S256x1024.Idx) 1).val
      omega
  · refine ⟨_, List.mem_map.mpr ⟨expertOf (y 0), mem_lastFirst _, rfl⟩, ?_⟩
    show y ∈ (rowBox (expertOf (y 0))).set
    unfold rowBox
    rw [Rect.mem_set_unit]
    intro a
    match a with
    | ⟨0, _⟩ =>
      exact ⟨by show (y 0).val / 256 * 256 ≤ (y 0).val; omega, by show (y 0).val < (y 0).val / 256 * 256 + 256; omega⟩
    | ⟨1, _⟩ =>
      have h : (y 1).val < 1024 := (y 1).isLt
      exact ⟨Nat.zero_le _, by show (y 1).val < 0 + 1024; omega⟩

end Cert.Moe.Kernel

end
-- ==== Proof.Point.lean ====
/-
  The two kinds of grid point opened: the first point, which fills the scratch arrays before it uses them, and every
  later one, which uses what it finds there. In both the output block is the closing products of the gates, the hidden
  columns and the rows of the second matrices.
-/
module

public import proofs.«01_k».proof.Proof.Tiles

@[expose] public section

noncomputable section

namespace Cert.Moe.Kernel

open Idealize.ShloMosaic Idealize.ShloMosaic.TcCoe Idealize.ShloMosaic.ValueIdx Idealize.SL.Sem
open Cert.KernelIdeal Cert.KernelIdeal.Gen

/-- The offset of a whole two-axis array. -/
theorem zero2 : (![0, 0] : Fin 2 → Nat) = fun _ => 0 := funext fun a => by fin_cases a <;> rfl

/-- The offset of a whole three-axis array. -/
theorem zero3 : (![0, 0, 0] : Fin 3 → Nat) = fun _ => 0 := funext fun a => by fin_cases a <;> rfl

/-- The output block of a grid point, from what it finds in its input blocks and its two scratch arrays. -/
def block (x0 : Vec Ideal S256x1024 .f32) (x1 : Vec Ideal S8x1024 .f32) (x3 : Vec Ideal S8x256 .f32) (x5 : Vec Ideal S8x1024 .f32)
    (w : Vec Ideal S8x1024x256 .bf16) (v : Vec Ideal S2048x1024 .bf16) : Vec Ideal S256x1024 .f32 :=
  k0_pay2 (k0_pay13 x0 x1) (columns x0 x1 x3 w) v x5

/-- The closing products after the eight stores of gated units have been read back whole. -/
theorem block_of_stores (x0 : Vec Ideal S256x1024 .f32) (x1 : Vec Ideal S8x1024 .f32) (x3 : Vec Ideal S8x256 .f32)
    (x5 : Vec Ideal S8x1024 .f32) (w : Vec Ideal S8x1024x256 .bf16) (v : Vec Ideal S2048x1024 .bf16)
    (arg10 : Memref sig .tc .vmem S256x2048 .bf16) (L : List (View.Piece (Elt Ideal) S256x2048 .bf16))
    (hL : L = lastFirst.map (columnPiece x0 x1 x3 w)) :
    k0_pay2 (k0_pay13 x0 x1)
        (arg10.view.readCov L (Rect.unit ![0, 0] S256x2048.size inb_S256x2048_S256x2048_0_0).toLoadRect) v x5
      = block x0 x1 x3 x5 w v := by
  subst hL
  unfold block
  refine congrArg (fun h => k0_pay2 (F := Ideal) (k0_pay13 x0 x1) h v x5) ?_
  refine (View.readCov_eq_canon' arg10.view _ _).trans ?_
  rw [canon_columns]
  exact View.ld_unit_zero (S := S256x2048) zero2 _ _

/-- The eight stores of second matrices read back whole. -/
theorem load_rows (x4 : Vec Ideal S8x256x1024 .f32) (arg9 : Memref sig .tc .vmem S2048x1024 .bf16)
    (L : List (View.Piece (Elt Ideal) S2048x1024 .bf16)) (hL : L = lastFirst.map (rowPiece x4)) :
    arg9.view.readCov L (Rect.unit ![0, 0] S2048x1024.size inb_S2048x1024_S2048x1024_0_0).toLoadRect = rows x4 := by
  subst hL
  refine (View.readCov_eq_canon' arg9.view _ _).trans ?_
  rw [canon_rows]
  exact View.ld_unit_zero (S := S2048x1024) zero2 _ _

/-- A load from the scratch array to which the first matrices have just been stored. -/
theorem load_first (x2 : Vec Ideal S8x1024x256 .f32) (arg8 : Memref sig .tc .vmem S8x1024x256 .bf16) (B : Rect S8x1024x256) :
    arg8.view.readCov ([⟨Rect.unit ![0, 0, 0] ![8, 1024, 256] inb_S8x1024x256_S8x1024x256_0_0_0, k0_pay3 (F := Ideal) x2⟩] :
        List (View.Piece (Elt Ideal) S8x1024x256 .bf16)) B.toLoadRect
      = View.ld (Val := Elt Ideal) (e' := .bf16) x2 B := by
  refine (View.readCov_eq_canon' arg8.view _ _).trans ?_
  refine congrArg (fun w : Vec Ideal S8x1024x256 .bf16 => View.ld (Val := Elt Ideal) (e' := .bf16) w B) ?_
  exact (View.canon_unit_zero (S := S8x1024x256) zero3 _ _).trans (w1_eq x2)

variable (c : Dev nD) (i : grid0.Coords)
  (arg1 : Memref sig .tc .vmem S256x1024 .f32) (harg1 : arg1.IsWhole) (arg2 : Memref sig .tc .vmem S8x1024 .f32)
  (harg2 : arg2.IsWhole) (arg3 : Memref sig .tc .vmem S8x1024x256 .f32) (harg3 : arg3.IsWhole) (arg4 : Memref sig .tc
  .vmem S8x256 .f32) (harg4 : arg4.IsWhole) (arg5 : Memref sig .tc .vmem S8x256x1024 .f32) (harg5 : arg5.IsWhole)
  (arg6 : Memref sig .tc .vmem S8x1024 .f32) (harg6 : arg6.IsWhole) (arg7 : Memref sig .tc .vmem S256x1024 .f32)
  (harg7 : arg7.IsWhole) (arg8 : Memref sig .tc .vmem S8x1024x256 .bf16) (harg8 : arg8.IsWhole) (arg9 : Memref sig .tc
  .vmem S2048x1024 .bf16) (harg9 : arg9.IsWhole) (arg10 : Memref sig .tc .vmem S256x2048 .bf16) (harg10 :
  arg10.IsWhole)
  (x0 : Vec Ideal S256x1024 .f32) (x1 : Vec Ideal S8x1024 .f32) (x2 : Vec Ideal S8x1024x256 .f32) (x3 : Vec Ideal S8x256 .f32)
  (x4 : Vec Ideal S8x256x1024 .f32) (x5 : Vec Ideal S8x1024 .f32) (xs0 : Vec Ideal S8x1024x256 .bf16) (xs1 : Vec Ideal S2048x1024 .bf16)

/-- A later point's output block. -/
theorem out_later (hc0 : ¬cond0_0 i) :
    out0_B_6 (F := Ideal) c i arg1 harg1 arg2 harg2 arg3 harg3 arg4 harg4 arg5 harg5 arg6 harg6 arg7 harg7 arg8 harg8 arg9 harg9 arg10 harg10 hc0 x0 x1 x2 x3 x4 x5 xs0 xs1 = block x0 x1 x3 x5 xs0 xs1 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 hc0 x0 x1 x2 x3 x4 x5 xs0 xs1)]
  unfold kernelRun0_B
  dsimp only
  rw [View.canon_unit_zero zero2]
  sl_unfold_words
  simp only [View.readAt_eq_ld, harg1.read_unread, harg2.read_unread, harg3.read_unread, harg4.read_unread, harg5.read_unread,
    harg6.read_unread, harg8.read_unread, harg9.read_unread, View.ld_unit_zero (S := S256x1024) zero2,
    View.ld_unit_zero (S := S8x1024) zero2, View.ld_unit_zero (S := S2048x1024) zero2]
  exact block_of_stores x0 x1 x3 x5 xs0 xs1 arg10 _ rfl

/-- The first point's output block. -/
theorem out_first (hc0 : cond0_0 i) :
    out0_A_6 (F := Ideal) c i arg1 harg1 arg2 harg2 arg3 harg3 arg4 harg4 arg5 harg5 arg6 harg6 arg7 harg7 arg8 harg8 arg9 harg9 arg10 harg10 hc0 x0 x1 x2 x3 x4 x5 = block x0 x1 x3 x5 x2 (rows x4) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  rw [View.canon_unit_zero zero2]
  sl_unfold_words
  simp only [View.readAt_eq_ld, harg1.read_unread, harg2.read_unread, harg3.read_unread, harg4.read_unread, harg5.read_unread,
    harg6.read_unread, View.ld_unit_zero (S := S256x1024) zero2, View.ld_unit_zero (S := S8x1024) zero2,
    View.ld_unit_zero (S := S2048x1024) zero2, View.ld_unit_zero (S := S8x1024x256) zero3]
  simp only [load_first x2 arg8]
  refine (congrArg (fun v => k0_pay2 (F := Ideal) (k0_pay13 x0 x1) _ v x5) (load_rows x4 arg9 _ rfl)).trans ?_
  exact block_of_stores x0 x1 x3 x5 x2 (rows x4) arg10 _ rfl

/-- The first point's first scratch array: the first matrices. -/
theorem scratch0_first (hc0 : cond0_0 i) :
    sout0_A_0 (F := Ideal) c i arg1 harg1 arg2 harg2 arg3 harg3 arg4 harg4 arg5 harg5 arg6 harg6 arg7 harg7 arg8 harg8 arg9 harg9 arg10 harg10 hc0 x0 x1 x2 x3 x4 x5 = x2 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_unit_zero zero3]
  simp only [View.readAt_eq_ld, harg3.read_unread, View.ld_unit_zero (S := S8x1024x256) zero3]
  exact w1_eq x2

/-- The first point's second scratch array: the rows of the second matrices. -/
theorem scratch1_first (hc0 : cond0_0 i) :
    sout0_A_1 (F := Ideal) c i arg1 harg1 arg2 harg2 arg3 harg3 arg4 harg4 arg5 harg5 arg6 harg6 arg7 harg7 arg8 harg8 arg9 harg9 arg10 harg10 hc0 x0 x1 x2 x3 x4 x5 = rows x4 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  simp only [View.readAt_eq_ld, harg5.read_unread]
  exact canon_rows x4

end Cert.Moe.Kernel

end
-- ==== Proof.Blocks.lean ====
/-
  What the windows read: the windows of the router matrix, of the two stacks of matrices and of the two bias matrices
  hold the whole argument at every grid point, and the window of the tokens holds, at point `t`, the 256 tokens from
  token `256 t`.
-/
module

public import proofs.«01_k».proof.Proof.Point
public import proofs.«01_k».proof.Proof.Gen.KernelIdeal.Frame
public import Idealize.ShloMosaic.Lib.Pipeline.ValueKit.Geometry

@[expose] public section

noncomputable section

namespace Cert.Moe.Kernel

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ) (c : Dev nD)

/-- The block indices of the windows that move: the grid point on the rows, zero on the columns. -/
theorem moving_index (t : Fin grid0.N) :
    win0_0.index t 0 = t.val ∧ win0_0.index t 1 = 0 ∧ win0_6.index t 0 = t.val ∧ win0_6.index t 1 = 0 := by
  rcases fin_N0 t with rfl | rfl | rfl | rfl | rfl | rfl | rfl | rfl <;> decide

/-- The windows that do not move hold their whole arrays at every point. -/
theorem block_whole (t : Fin cfg0.N) :
    iblk m c 1 t = m ((c : Thread nD τ).loc main_arg1) ∧ iblk m c 2 t = m ((c : Thread nD τ).loc main_arg2)
      ∧ iblk m c 3 t = m ((c : Thread nD τ).loc main_arg3) ∧ iblk m c 4 t = m ((c : Thread nD τ).loc main_arg4)
      ∧ iblk m c 5 t = m ((c : Thread nD τ).loc main_arg5) := by
  rw [← V_main_arg1 m c, ← V_main_arg2 m c, ← V_main_arg3 m c, ← V_main_arg4 m c, ← V_main_arg5 m c]
  refine ⟨?_, ?_, ?_, ?_, ?_⟩ <;> funext y <;> blk_simp [iblk] <;>
    refine congrArg (V m c _) (funext fun a => Fin.ext ?_) <;> fin_cases a <;> exact (Nat.zero_add _).trans (Nat.one_mul _)

/-- The tokens: row `r` of point `t`'s block is token `256 t + r`. -/
theorem block_tokens (t : Fin cfg0.N) (r : Fin 256) (d : Fin 1024) (n : Fin 2048) (hn : n.val = 256 * t.val + r.val) :
    iblk m c 0 t (ix2 r d) = m ((c : Thread nD τ).loc main_arg0) (ix3 (0 : Fin 1) n d) := by
  have hi := moving_index t
  have hv : V m c main_v0 = shapeCast S2048x1024 (m ((c : Thread nD τ).loc main_arg0)) shapeCasts_S1x2048x1024_S2048x1024 := by
    unfold V V0
    simp only [hostOps0, List.flatten_cons, List.flatten_nil, List.append_nil]
    after_results
    rfl
  blk_simp [iblk]
  rw [hv]
  refine shapeCast_apply (s := S1x2048x1024) (t := S2048x1024) _ _ _ _ ?_
  rw [Shape.rowMajor_val_two, Shape.rowMajor_val_three]
  blk_simp [hi.1, hi.2.1]
  show n.val * 1024 + d.val = (t.val * 256 + r.val) * 1024 + d.val
  omega

end Cert.Moe.Kernel

end
-- ==== Proof.Value.lean ====
/-
  The kernel's result: what each grid point leaves, the array the points fill, and the run that ends with the layer's
  value for every token.
-/
module

public import proofs.«01_k».proof.Proof.Blocks

@[expose] public section

noncomputable section

namespace Cert.Moe.Kernel

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ) (ρ : Dev nD → PrngReg) (c : Dev nD)

/-- The tokens, as launched. -/
abbrev tokens : Vec Ideal S1x2048x1024 .f32 := m ((c : Thread nD τ).loc main_arg0)
/-- The router matrix, as launched. -/
abbrev router : Vec Ideal S8x1024 .f32 := m ((c : Thread nD τ).loc main_arg1)
/-- The stack of first matrices, as launched. -/
abbrev firsts : Vec Ideal S8x1024x256 .f32 := m ((c : Thread nD τ).loc main_arg2)
/-- The hidden units' biases, as launched. -/
abbrev firstBias : Vec Ideal S8x256 .f32 := m ((c : Thread nD τ).loc main_arg3)
/-- The stack of second matrices, as launched. -/
abbrev seconds : Vec Ideal S8x256x1024 .f32 := m ((c : Thread nD τ).loc main_arg4)
/-- The outputs' biases, as launched. -/
abbrev secondBias : Vec Ideal S8x1024 .f32 := m ((c : Thread nD τ).loc main_arg5)

/-- Every point leaves its tokens' block of results, the first matrices in the first scratch array, and the rows of the
    second matrices in the second: the first point stores the two, and no later point changes them. -/
theorem point_eq (n : ℕ) : ∀ h : n < cfg0.N,
    outsAt0 m c n h = (block (iblk m c 0 ⟨n, h⟩) (router m c) (firstBias m c) (secondBias m c) (firsts m c) (rows (seconds m c)),
      firsts m c, rows (seconds m c)) := by
  induction n with
  | zero =>
    intro h
    obtain ⟨h1, h2, h3, h4, h5⟩ := block_whole m c ⟨0, h⟩
    refine (outsAt0_A m c ⟨0, h⟩ rfl).trans ?_
    rw [out_first, scratch0_first, scratch1_first, h1, h2, h3, h4, h5]
  | succ n ih =>
    intro h
    have h8 : n + 1 < 8 := Nat.lt_of_lt_of_eq h N_0
    obtain ⟨h1, h2, h3, h4, h5⟩ := block_whole m c ⟨n + 1, h⟩
    refine (outsAt0_B m c ⟨n + 1, h⟩ (by show ¬(n + 1) % 8 = 0; omega)).trans ?_
    rw [out_later]
    unfold sout0_B_0 sout0_B_1
    simp only [Nat.add_sub_cancel]
    rw [ih, h1, h3, h5]

/-- A block of results at a row and a feature is the layer for that row's token. -/
theorem block_apply (x0 : Vec Ideal S256x1024 .f32) (x1 : Vec Ideal S8x1024 .f32) (x3 : Vec Ideal S8x256 .f32)
    (x5 : Vec Ideal S8x1024 .f32) (w : Vec Ideal S8x1024x256 .bf16) (x4 : Vec Ideal S8x256x1024 .f32) (r : Fin 256) (d : Fin 1024) :
    block x0 x1 x3 x5 w (rows x4) (ix2 r d)
      = layer (fun k => x0 (ix2 r k)) (fun e k => x1 (ix2 e k)) (fun e k h => w (ix3 e k h)) (fun e h => x3 (ix2 e h))
          (fun e h k => x4 (ix3 e h k)) (fun e k => x5 (ix2 e k)) d := by
  unfold block
  rw [closing_apply, ← layer_of_columns]
  congr 1
  refine Finset.sum_congr rfl fun e _ => ?_
  rw [gates_apply]

/-- The results of the whole kernel before the last reshape: row `r` is the layer for token `r`. -/
def results : Vec Ideal S2048x1024 .f32 := fun y =>
  layer (fun k => tokens m c (ix3 (0 : Fin 1) (y 0) k)) (fun e k => router m c (ix2 e k)) (fun e k h => firsts m c (ix3 e k h))
    (fun e h => firstBias m c (ix2 e h)) (fun e h k => seconds m c (ix3 e h k)) (fun e k => secondBias m c (ix2 e k)) (y 1)

/-- The eight write-backs fill the result array. -/
theorem array_eq : (dats m 0 c).arrAt 6 cfg0.N = results m c := by
  refine (dats m 0 c).arrAt_eq_of_covers 6 (results m c) (by decide +kernel) fun t _ y => ?_
  have hi := moving_index t
  blk_simp
  rw [after0_6, point_eq]
  have e0 : ((win0_6.blk t).view.emb y 0).val = 256 * t.val + (y 0).val := by
    blk_simp [hi.2.2.1]
    omega
  have e1 : (win0_6.blk t).view.emb y 1 = y 1 := by
    apply Fin.ext
    blk_simp [hi.2.2.2]
  have hx : (fun k => iblk m c 0 t (ix2 (y 0) k)) = fun k => tokens m c (ix3 (0 : Fin 1) ((win0_6.blk t).view.emb y 0) k) :=
    funext fun k => block_tokens m c t (y 0) k _ e0
  refine (congrArg (block (iblk m c 0 t) (router m c) (firstBias m c) (secondBias m c) (firsts m c) (rows (seconds m c)))
    (eq_ix2 y)).trans ?_
  refine (block_apply _ _ _ _ _ _ (y 0) (y 1)).trans ?_
  unfold results
  rw [e1]
  exact congrArg (fun x => layer x _ _ _ _ _ (y 1)) hx

/-- After the last reshape: the results under a leading axis of extent one. -/
theorem tail_eq : Pipeline.afterTail₀ cfgs (dats m) 0 (V0 m) [hostOps1] c main_v2
    = shapeCast S1x2048x1024 (results m c) shapeCasts_S2048x1024_S1x2048x1024 := by
  unfold Pipeline.afterTail₀
  simp only [hostOps1, List.flatten_cons, List.flatten_nil, List.append_nil]
  after_results
  exact congrArg (fun x : Vec Ideal S2048x1024 .f32 => shapeCast S1x2048x1024 x shapeCasts_S2048x1024_S1x2048x1024)
    ((Pipeline.withArrays_arr spec0 launch0.win.arr_inj c (V0 m c) (fun w => (dats m 0 c).arrAt w cfg0.N) 6).trans (array_eq m c))

/-- The kernel's run: it ends with the layer's value for every token, and the arguments as launched. -/
theorem run : θ_run defs (onTc (τ := τ) (main (F := Ideal))) ⟨m, fun _ => 0, ρ⟩ (fun r => ∀ c : Dev nD,
      r.2.mem ((c.tc : Thread nD τ).loc main_v2) = shapeCast S1x2048x1024 (results m c) shapeCasts_S2048x1024_S1x2048x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).2 main_v2 (Pipeline.mem_restRefs_of main_v2 (by decide) (by decide))).trans (tail_eq m c), h.2 c⟩)
    (θ_run_and (run_main m ρ) (unchanged m ρ))

end Cert.Moe.Kernel

end
-- ==== Proof.lean ====
/-
  The proof of every claim about the mixture-of-experts kernel: it and its idealization run to the end and leave their
  arguments and their counters as they should be, so does the reference, the idealization is the kernel's own text, and
  over the extended reals the kernel and the reference end with the same result.

  The modules under Proof/: Gate and TopK say what a gate is, in the form that each program uses; Spec states the layer;
  Reference reads it off the reference; FirstMax, Payload, Tiles and Point read it off one grid point of the kernel; Blocks
  and Value off the whole run.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Reference
public import proofs.«01_k».proof.Proof.Value
public import Idealize.ShloMosaic.Adequacy
public import Idealize.ShloMosaic.Init

@[expose] public section

noncomputable section

namespace Cert.Proof

open Idealize.ShloMosaic Idealize.SL.Sem Cert.Kernel

/-- The reference ends with its arguments as launched, and it has no semaphore whose counter could be other than zero. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- At the ideal instance the kernel and the reference, started from the same arguments, end with the same result: for
    every token both hold the layer's value. -/
theorem algebraic : Cert.algebraic_KernelIdeal_ReferenceIdeal := by
  intro m ρ m' ρ' _ hagree
  refine ⟨_, Cert.Moe.Kernel.run m ρ, ?_⟩
  refine (θ_run Cert.ReferenceIdeal.defs _ _).mono (fun _ h c => ⟨((h c).1.trans ?_), (h c).2⟩) (Cert.ReferenceIdeal.Value.run m' ρ')
  obtain ⟨h0, h1, h2, h3, h4, h5⟩ := hagree c
  rw [h0, h1, h2, h3, h4, h5]
  refine (Cert.ReferenceIdeal.Read.val_main_v28_eq _ _ _ _ _ _).trans ?_
  unfold Cert.ReferenceIdeal.Read.val_main_v28
  refine congrArg (fun x : Vec Ideal Cert.KernelIdeal.S2048x1024 .f32 =>
    shapeCast Cert.KernelIdeal.S1x2048x1024 x Cert.KernelIdeal.Gen.shapeCasts_S2048x1024_S1x2048x1024) (funext fun y => ?_)
  refine (congrArg _ (ValueIdx.eq_ix2 y)).trans ?_
  exact Cert.Moe.Reference.sum_apply _ _ _ _ _ _ (y 0) (y 1)

/-- Everything claimed, proved. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  reference_frame,
  trivial, algebraic⟩

end Cert.Proof

end
